-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Coalesce (m : (ℓ : Loc Cert.Coalesce.nD Cert.Coalesce.τ Cert.Coalesce.sig) → Buf (Elt Bits) ℓ) : Prop :=
  True

def Pre_CoalesceIdeal (m : (ℓ : Loc Cert.CoalesceIdeal.nD Cert.CoalesceIdeal.τ Cert.CoalesceIdeal.sig) → Buf (Elt Ideal) ℓ) : Prop :=
  True

def Pre_CoalesceReferenceIdeal (m : (ℓ : Loc Cert.CoalesceReferenceIdeal.nD Cert.CoalesceReferenceIdeal.τ Cert.CoalesceReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Coalesce [hCoalesce : Cert.Coalesce.Facts] : Prop :=
  ∀ (m : (ℓ : Loc Cert.Coalesce.nD Cert.Coalesce.τ Cert.Coalesce.sig) → Buf (Elt Bits) ℓ) (g : Dev Cert.Coalesce.nD → PrngReg), Pre_Coalesce m →
    θ_run (Cert.Coalesce.defs (F := Bits)) (onTc (τ := Cert.Coalesce.τ) (Cert.Coalesce.main (F := Bits))) ⟨m, fun _ => 0, g⟩ (fun r => (∀ c : Dev Cert.Coalesce.nD,
      r.2.mem ((c.tc : Thread Cert.Coalesce.nD Cert.Coalesce.τ).loc Cert.Coalesce.main_arg0) = m ((c.tc : Thread Cert.Coalesce.nD Cert.Coalesce.τ).loc Cert.Coalesce.main_arg0)
      ∧ r.2.mem ((c.tc : Thread Cert.Coalesce.nD Cert.Coalesce.τ).loc Cert.Coalesce.main_arg1) = m ((c.tc : Thread Cert.Coalesce.nD Cert.Coalesce.τ).loc Cert.Coalesce.main_arg1))
      ∧ r.2.sem = fun _ => 0)

def quiescent_CoalesceIdeal [hCoalesceIdeal : Cert.CoalesceIdeal.Facts] : Prop :=
  ∀ (m : (ℓ : Loc Cert.CoalesceIdeal.nD Cert.CoalesceIdeal.τ Cert.CoalesceIdeal.sig) → Buf (Elt Ideal) ℓ) (g : Dev Cert.CoalesceIdeal.nD → PrngReg), Pre_CoalesceIdeal m →
    θ_run (Cert.CoalesceIdeal.defs (F := Ideal)) (onTc (τ := Cert.CoalesceIdeal.τ) (Cert.CoalesceIdeal.main (F := Ideal))) ⟨m, fun _ => 0, g⟩ (fun r => (∀ c : Dev Cert.CoalesceIdeal.nD,
      r.2.mem ((c.tc : Thread Cert.CoalesceIdeal.nD Cert.CoalesceIdeal.τ).loc Cert.CoalesceIdeal.main_arg0) = m ((c.tc : Thread Cert.CoalesceIdeal.nD Cert.CoalesceIdeal.τ).loc Cert.CoalesceIdeal.main_arg0)
      ∧ r.2.mem ((c.tc : Thread Cert.CoalesceIdeal.nD Cert.CoalesceIdeal.τ).loc Cert.CoalesceIdeal.main_arg1) = m ((c.tc : Thread Cert.CoalesceIdeal.nD Cert.CoalesceIdeal.τ).loc Cert.CoalesceIdeal.main_arg1))
      ∧ r.2.sem = fun _ => 0)

def quiescent_CoalesceReferenceIdeal [hCoalesceReferenceIdeal : Cert.CoalesceReferenceIdeal.Facts] : Prop :=
  ∀ (m : (ℓ : Loc Cert.CoalesceReferenceIdeal.nD Cert.CoalesceReferenceIdeal.τ Cert.CoalesceReferenceIdeal.sig) → Buf (Elt Ideal) ℓ) (g : Dev Cert.CoalesceReferenceIdeal.nD → PrngReg), Pre_CoalesceReferenceIdeal m →
    θ_run (Cert.CoalesceReferenceIdeal.defs (F := Ideal)) (onTc (τ := Cert.CoalesceReferenceIdeal.τ) (Cert.CoalesceReferenceIdeal.main (F := Ideal))) ⟨m, fun _ => 0, g⟩ (fun r => (∀ c : Dev Cert.CoalesceReferenceIdeal.nD,
      r.2.mem ((c.tc : Thread Cert.CoalesceReferenceIdeal.nD Cert.CoalesceReferenceIdeal.τ).loc Cert.CoalesceReferenceIdeal.main_arg0) = m ((c.tc : Thread Cert.CoalesceReferenceIdeal.nD Cert.CoalesceReferenceIdeal.τ).loc Cert.CoalesceReferenceIdeal.main_arg0)
      ∧ r.2.mem ((c.tc : Thread Cert.CoalesceReferenceIdeal.nD Cert.CoalesceReferenceIdeal.τ).loc Cert.CoalesceReferenceIdeal.main_arg1) = m ((c.tc : Thread Cert.CoalesceReferenceIdeal.nD Cert.CoalesceReferenceIdeal.τ).loc Cert.CoalesceReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_c) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Coalesce_CoalesceIdeal : Prop :=
  True

def algebraic_CoalesceIdeal_CoalesceReferenceIdeal [hCoalesceIdeal : Cert.CoalesceIdeal.Facts] [hCoalesceReferenceIdeal : Cert.CoalesceReferenceIdeal.Facts] : Prop :=
  ∀ (m : (ℓ : Loc Cert.CoalesceIdeal.nD Cert.CoalesceIdeal.τ Cert.CoalesceIdeal.sig) → Buf (Elt Ideal) ℓ) (g : Dev Cert.CoalesceIdeal.nD → PrngReg)
    (m' : (ℓ : Loc Cert.CoalesceReferenceIdeal.nD Cert.CoalesceReferenceIdeal.τ Cert.CoalesceReferenceIdeal.sig) → Buf (Elt Ideal) ℓ) (g' : Dev Cert.CoalesceReferenceIdeal.nD → PrngReg), Pre_CoalesceIdeal m →
    (∀ c : Dev Cert.CoalesceIdeal.nD,
      m' ((c.tc : Thread Cert.CoalesceReferenceIdeal.nD Cert.CoalesceReferenceIdeal.τ).loc Cert.CoalesceReferenceIdeal.main_arg0) = m ((c.tc : Thread Cert.CoalesceIdeal.nD Cert.CoalesceIdeal.τ).loc Cert.CoalesceIdeal.main_arg0)
      ∧ m' ((c.tc : Thread Cert.CoalesceReferenceIdeal.nD Cert.CoalesceReferenceIdeal.τ).loc Cert.CoalesceReferenceIdeal.main_arg1) = m ((c.tc : Thread Cert.CoalesceIdeal.nD Cert.CoalesceIdeal.τ).loc Cert.CoalesceIdeal.main_arg1)) →
    ∃ (v0 : (c : Dev Cert.CoalesceIdeal.nD) → Buf (Elt Ideal) ((c.tc : Thread Cert.CoalesceIdeal.nD Cert.CoalesceIdeal.τ).loc Cert.CoalesceIdeal.main_v0_0)) (v1 : (c : Dev Cert.CoalesceIdeal.nD) → Buf (Elt Ideal) ((c.tc : Thread Cert.CoalesceIdeal.nD Cert.CoalesceIdeal.τ).loc Cert.CoalesceIdeal.main_v0_1)),
      θ_run (Cert.CoalesceIdeal.defs (F := Ideal)) (onTc (τ := Cert.CoalesceIdeal.τ) (Cert.CoalesceIdeal.main (F := Ideal))) ⟨m, fun _ => 0, g⟩ (fun r => ∀ c : Dev Cert.CoalesceIdeal.nD,
          r.2.mem ((c.tc : Thread Cert.CoalesceIdeal.nD Cert.CoalesceIdeal.τ).loc Cert.CoalesceIdeal.main_v0_0) = v0 c
          ∧ r.2.mem ((c.tc : Thread Cert.CoalesceIdeal.nD Cert.CoalesceIdeal.τ).loc Cert.CoalesceIdeal.main_v0_1) = v1 c
          ∧ r.2.mem ((c.tc : Thread Cert.CoalesceIdeal.nD Cert.CoalesceIdeal.τ).loc Cert.CoalesceIdeal.main_arg0) = m ((c.tc : Thread Cert.CoalesceIdeal.nD Cert.CoalesceIdeal.τ).loc Cert.CoalesceIdeal.main_arg0)
          ∧ r.2.mem ((c.tc : Thread Cert.CoalesceIdeal.nD Cert.CoalesceIdeal.τ).loc Cert.CoalesceIdeal.main_arg1) = m ((c.tc : Thread Cert.CoalesceIdeal.nD Cert.CoalesceIdeal.τ).loc Cert.CoalesceIdeal.main_arg1))
      ∧ θ_run (Cert.CoalesceReferenceIdeal.defs (F := Ideal)) (onTc (τ := Cert.CoalesceReferenceIdeal.τ) (Cert.CoalesceReferenceIdeal.main (F := Ideal))) ⟨m', fun _ => 0, g'⟩ (fun r => ∀ c : Dev Cert.CoalesceReferenceIdeal.nD,
          r.2.mem ((c.tc : Thread Cert.CoalesceReferenceIdeal.nD Cert.CoalesceReferenceIdeal.τ).loc Cert.CoalesceReferenceIdeal.main_v5) = v0 c
          ∧ r.2.mem ((c.tc : Thread Cert.CoalesceReferenceIdeal.nD Cert.CoalesceReferenceIdeal.τ).loc Cert.CoalesceReferenceIdeal.main_c) = v1 c
          ∧ r.2.mem ((c.tc : Thread Cert.CoalesceReferenceIdeal.nD Cert.CoalesceReferenceIdeal.τ).loc Cert.CoalesceReferenceIdeal.main_arg0) = m' ((c.tc : Thread Cert.CoalesceReferenceIdeal.nD Cert.CoalesceReferenceIdeal.τ).loc Cert.CoalesceReferenceIdeal.main_arg0)
          ∧ r.2.mem ((c.tc : Thread Cert.CoalesceReferenceIdeal.nD Cert.CoalesceReferenceIdeal.τ).loc Cert.CoalesceReferenceIdeal.main_arg1) = m' ((c.tc : Thread Cert.CoalesceReferenceIdeal.nD Cert.CoalesceReferenceIdeal.τ).loc Cert.CoalesceReferenceIdeal.main_arg1))

def Claim : Prop :=
  ∃ (hKernel : Cert.Kernel.Facts) (hKernelIdeal : Cert.KernelIdeal.Facts) (hReferenceIdeal : Cert.ReferenceIdeal.Facts) (hCoalesce : Cert.Coalesce.Facts) (hCoalesceIdeal : Cert.CoalesceIdeal.Facts) (hCoalesceReferenceIdeal : Cert.CoalesceReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Coalesce (hCoalesce := hCoalesce)
    ∧ quiescent_CoalesceIdeal (hCoalesceIdeal := hCoalesceIdeal)
    ∧ quiescent_CoalesceReferenceIdeal (hCoalesceReferenceIdeal := hCoalesceReferenceIdeal)
    ∧ preserves_Kernel_KernelIdeal
    ∧ algebraic_KernelIdeal_ReferenceIdeal (hKernelIdeal := hKernelIdeal) (hReferenceIdeal := hReferenceIdeal)
    ∧ preserves_Coalesce_CoalesceIdeal
    ∧ algebraic_CoalesceIdeal_CoalesceReferenceIdeal (hCoalesceIdeal := hCoalesceIdeal) (hCoalesceReferenceIdeal := hCoalesceReferenceIdeal)
-- ==== Kernel.lean ====
abbrev S320000x128 : Shape := ⟨2, ![320000, 128]⟩
abbrev S_ : Shape := ⟨0, ![]⟩
abbrev S1x1 : Shape := ⟨2, ![1, 1]⟩
abbrev S1x6 : Shape := ⟨2, ![1, 6]⟩
abbrev S1 : Shape := ⟨1, ![1]⟩

abbrev nBuf : Space → Nat
  | .hbm => 8
  | .vmem => 0
  | .smem => 4
  | _ => 0

abbrev bufTy : (tb : Table) → Fin (tcTables nBuf tb) → BufTy
  | .hbm, ⟨0, _⟩ => ⟨S320000x128, .f32⟩
  | .hbm, ⟨1, _⟩ => ⟨S_, .i32⟩
  | .hbm, ⟨2, _⟩ => ⟨S1x1, .i32⟩
  | .hbm, ⟨3, _⟩ => ⟨S_, .f32⟩
  | .hbm, ⟨4, _⟩ => ⟨S1x6, .f32⟩
  | .hbm, ⟨5, _⟩ => ⟨S1x6, .f32⟩
  | .hbm, ⟨6, _⟩ => ⟨S1x1, .i32⟩
  | .hbm, ⟨7, _⟩ => ⟨S1, .i32⟩
  | .local _ .smem, ⟨0, _⟩ => ⟨S1x1, .i32⟩
  | .local _ .smem, ⟨1, _⟩ => ⟨S1x6, .f32⟩
  | .local _ .smem, ⟨2, _⟩ => ⟨S1x6, .f32⟩
  | .local _ .smem, ⟨3, _⟩ => ⟨S1x1, .i32⟩
  | _, _ => ⟨S320000x128, .f32⟩

abbrev bufScoped : (cs : CoreSpace) → Fin (nBuf (.core cs)) → Bool
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S320000x128 : Shape := ⟨2, ![320000, 128]⟩
abbrev S1 : Shape := ⟨1, ![1]⟩
abbrev S_ : Shape := ⟨0, ![]⟩
abbrev S1x1 : Shape := ⟨2, ![1, 1]⟩
abbrev S1x2x3 : Shape := ⟨3, ![1, 2, 3]⟩

abbrev nBuf : Space → Nat
  | .hbm => 11
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S1, .i32⟩
  | .hbm, ⟨2, _⟩ => ⟨S_, .i32⟩
  | .hbm, ⟨3, _⟩ => ⟨S1x1, .i32⟩
  | .hbm, ⟨4, _⟩ => ⟨S_, .f32⟩
  | .hbm, ⟨5, _⟩ => ⟨S1x2x3, .f32⟩
  | .hbm, ⟨6, _⟩ => ⟨S1, .i32⟩
  | .hbm, ⟨7, _⟩ => ⟨S_, .f32⟩
  | .hbm, ⟨8, _⟩ => ⟨S1x2x3, .f32⟩
  | .hbm, ⟨9, _⟩ => ⟨S1x1, .i32⟩
  | .hbm, ⟨10, _⟩ => ⟨S1x2x3, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Coalesce.lean ====
abbrev S1x1 : Shape := ⟨2, ![1, 1]⟩
abbrev S1x6 : Shape := ⟨2, ![1, 6]⟩

abbrev nBuf : Space → Nat
  | .hbm => 4
  | .vmem => 0
  | .smem => 4
  | _ => 0

abbrev bufTy : (tb : Table) → Fin (tcTables nBuf tb) → BufTy
  | .hbm, ⟨0, _⟩ => ⟨S1x1, .i32⟩
  | .hbm, ⟨1, _⟩ => ⟨S1x6, .f32⟩
  | .hbm, ⟨2, _⟩ => ⟨S1x6, .f32⟩
  | .hbm, ⟨3, _⟩ => ⟨S1x1, .i32⟩
  | .local _ .smem, ⟨0, _⟩ => ⟨S1x1, .i32⟩
  | .local _ .smem, ⟨1, _⟩ => ⟨S1x6, .f32⟩
  | .local _ .smem, ⟨2, _⟩ => ⟨S1x6, .f32⟩
  | .local _ .smem, ⟨3, _⟩ => ⟨S1x1, .i32⟩
  | _, _ => ⟨S1x1, .i32⟩

abbrev bufScoped : (cs : CoreSpace) → Fin (nBuf (.core cs)) → Bool
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== CoalesceReferenceIdeal.lean ====
abbrev S1x1 : Shape := ⟨2, ![1, 1]⟩
abbrev S1x6 : Shape := ⟨2, ![1, 6]⟩
abbrev S1x2x3 : Shape := ⟨3, ![1, 2, 3]⟩
abbrev S1 : Shape := ⟨1, ![1]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1x1, .i32⟩
  | .hbm, ⟨1, _⟩ => ⟨S1x6, .f32⟩
  | .hbm, ⟨2, _⟩ => ⟨S1x1, .i32⟩
  | .hbm, ⟨3, _⟩ => ⟨S1x2x3, .f32⟩
  | .hbm, ⟨4, _⟩ => ⟨S1, .i32⟩
  | .hbm, ⟨5, _⟩ => ⟨S_, .f32⟩
  | .hbm, ⟨6, _⟩ => ⟨S1x2x3, .f32⟩
  | .hbm, ⟨7, _⟩ => ⟨S1x1, .i32⟩
  | .hbm, ⟨8, _⟩ => ⟨S1x2x3, .f32⟩
  | .hbm, ⟨9, _⟩ => ⟨S1x6, .f32⟩
  | _, _ => ⟨S1x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.KernelValue.lean ====
/-
  The kernel: what its result holds after a run.
-/
module

public import proofs.«01_k».proof.Proof.Gen.KernelIdeal.Frame
public import Idealize.ShloMosaic.Lib.Pipeline.Value
public import Idealize.ShloMosaic.Lib.StableHlo.Run
public import Idealize.ShloMosaic.Lib.Tactic

@[expose] public section

noncomputable section

namespace Cert.KernelIdeal.Arrays

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The store of the comparison's result leaves the one in the second result block. -/
theorem out_one (c : Dev nD) (a0 : Memref sig .tc .smem S1x1 .i32) (h0 : a0.IsWhole) (a1 : Memref sig .tc .smem S1x6 .f32)
    (h1 : a1.IsWhole) (a2 : Memref sig .tc .smem S1x6 .f32) (h2 : a2.IsWhole) (a3 : Memref sig .tc .smem S1x1 .i32)
    (h3 : a3.IsWhole) (x0 : Vec F S1x1 .i32) (x1 : Vec F S1x6 .f32) :
    out0_A_3 c a0 h0 a1 h1 a2 h2 a3 h3 x0 x1 = fun _ => 1#32 := by
  unfold out0_A_3
  rw [View.read_writes_eq_canon _ _ _ (cover0_A_3 c a0 h0 a1 h1 a2 h2 a3 h3 x0 x1)]
  funext y
  refine View.canon_apply_of_pieces (fun _ => (1#32 : BitVec 32)) _ ?_ y (cover0_A_3 c a0 h0 a1 h1 a2 h2 a3 h3 x0 x1 y)
  unfold kernelRun0_A
  dsimp only
  simp only [List.forall_mem_cons, List.not_mem_nil, false_implies, implies_true, and_true]

/-- The second result array of the call holds the one. -/
theorem array_one (c : Dev nD) : (dats m 0 c).arrAt 3 cfg0.N = fun _ => (1#32 : BitVec 32) := by
  have hz : (fun a => win0_3.index t0_0 a * main_v2_1.ty.shape.size a) = fun _ => 0 := funext fun a => by fin_cases a <;> decide
  have h := (dats m 0 c).read_blk_arrAt_eq_flushed 3
    (fun t t' _ _ hne => absurd ((fin_N0 t).trans (fin_N0 t').symm) hne) cfg0.N t0_0 t0_0.isLt (flush0_3 t0_0)
  have e : (dats m 0 c).flushed 3 t0_0 = fun _ => (1#32 : BitVec 32) := by
    show (cfg0.win 3).cut (grid0.coords t0_0) ((dats m 0 c).after 3 t0_0) = _
    rw [after0_3]
    unfold outsAt0
    rw [out_one]
  exact (Memref.read_access_unit_zero (Elt F) main_v2_1 hz (fun a => by rw [congrFun hz a]; simp) ((dats m 0 c).arrAt 3 cfg0.N)).symm.trans (h.trans e)

/-- The kernel's result, the second result array read as a vector, holds the one. -/
theorem result_one (c : Dev nD) :
    Pipeline.afterTail₀ cfgs (dats m) 0 (V0 m) [hostOps1] c main_v3 = constantI S1 32 1#32 := by
  unfold Pipeline.afterTail₀
  have hA : Pipeline.withArrays (cfgs 0).spec c (V0 m c) (fun w => (dats m 0 c).arrAt w (cfgs 0).N) (Proc.devRef .tc main_v2_1)
      = fun _ => (1#32 : BitVec 32) :=
    (Pipeline.withArrays_arr (cfgs 0).spec (by decide) c (V0 m c) (fun w => (dats m 0 c).arrAt w (cfgs 0).N) 3).trans (array_one m c)
  generalize Pipeline.withArrays (cfgs 0).spec c (V0 m c) (fun w => (dats m 0 c).arrAt w (cfgs 0).N) = W at hA ⊢
  simp only [hostOps1, List.flatten_cons, List.flatten_nil, List.append_nil]
  after_results
  funext y
  rw [hA]
  rfl

/-- Every run ends with the one in the result, the argument unchanged. -/
theorem run : θ_run defs (onTc (τ := τ) (main (F := F))) ⟨m, fun _ => 0, ρ⟩ fun r => ∀ c : Dev nD,
      r.2.mem ((c : Thread nD τ).loc main_v3) = constantI S1 32 1#32
      ∧ r.2.mem ((c : Thread nD τ).loc main_arg0) = m ((c : Thread nD τ).loc main_arg0) :=
  (θ_run defs _ _).mono (fun _ h c =>
      ⟨((h c).2 main_v3 (Pipeline.mem_restRefs_of main_v3 (by decide) (by decide))).trans (result_one m c),
        ((h c).2 main_arg0 (Pipeline.mem_restRefs_of main_arg0 (by decide) (by decide))).trans (W_main_arg0 m (dats m) c)⟩)
    (run_main m ρ)

end Cert.KernelIdeal.Arrays
-- ==== Proof.CallBlock.lean ====
/-
  What the body of the call leaves in its two output blocks, as a function of the two input blocks.
-/
module

public import proofs.«01_k».proof.Proof.Gen.CoalesceIdeal.Frame
public import Idealize.ShloMosaic.Lib.Pipeline.Value
public import Idealize.ShloMosaic.Lib.ValueIdx
public import Idealize.ShloMosaic.Lib.Tactic

@[expose] public section

noncomputable section

namespace Cert.CoalesceIdeal.Block

open Cert.CoalesceIdeal Cert.CoalesceIdeal.Gen Idealize.ShloMosaic Idealize.ShloMosaic.TcCoe Idealize.SL.Sem

variable {F : FTy → Type} [FloatOps F]

/-- One accumulated entry: zero, plus the value if the index word is the segment number 0, plus zero otherwise. -/
def entry (w : BitVec 32) (v : F .f32) : F .f32 :=
  Scalar.addf (Scalar.ofBits .f32 0x00000000#32)
    (Scalar.select (Scalar.cmpi .eq w 0#32) v (Scalar.ofBits .f32 0x00000000#32))

/-- The six accumulated entries, each from the value in its own place. -/
def sums (x0 : Vec F S1x1 .i32) (x1 : Vec F S1x6 .f32) : Vec F S1x6 .f32 :=
  fun y => entry (x0 (ValueIdx.ix2 0 0)) (x1 y)

/-- A rectangle of one cell has one index. -/
theorem cell_eq (i j : S1x1.Idx) : i = j :=
  funext fun a => by
    have hi : (i a).val < ![1, 1] a := (i a).isLt
    have hj : (j a).val < ![1, 1] a := (j a).isLt
    apply Fin.ext
    match a with
    | ⟨0, _⟩ => exact (Nat.lt_one_iff.mp hi).trans (Nat.lt_one_iff.mp hj).symm
    | ⟨1, _⟩ => exact (Nat.lt_one_iff.mp hi).trans (Nat.lt_one_iff.mp hj).symm

/-- The entry computed from the index word and from one word of the values is the accumulated entry of that word's place. -/
theorem entry_read (a0 : Memref sig .tc .smem S1x1 .i32) (h0 : a0.IsWhole) (a1 : Memref sig .tc .smem S1x6 .f32)
    (h1 : a1.IsWhole) (x0 : Vec F S1x1 .i32) (x1 : Vec F S1x6 .f32) (off : Fin 2 → Nat)
    (inb0 : ∀ a, (![0, 0] : Fin 2 → Nat) a + (![1, 1] : Fin 2 → Nat) a ≤ S1x1.size a)
    (inb : ∀ a, off a + (![1, 1] : Fin 2 → Nat) a ≤ S1x6.size a) (i0 i x : S1x1.Idx) :
    entry (View.readAt (Elt F) a0.view (Rect.unit (s := S1x1) ![0, 0] ![1, 1] inb0).toLoadRect (h0.unread x0) i0)
      (View.readAt (Elt F) a1.view (Rect.unit (s := S1x6) off ![1, 1] inb).toLoadRect (h1.unread x1) i)
      = sums x0 x1 ((Rect.unit (s := S1x6) off ![1, 1] inb).emb x) := by
  simp only [View.readAt_eq_ld, h0.read_unread, h1.read_unread]
  rw [cell_eq i x]
  unfold sums
  exact congrArg₂ entry (congrArg x0 (cell_eq _ _)) rfl

/-- The six stores leave the accumulated entries in the first output block. -/
theorem out_sums (c : Dev nD) (a0 : Memref sig .tc .smem S1x1 .i32) (h0 : a0.IsWhole)
    (a1 : Memref sig .tc .smem S1x6 .f32) (h1 : a1.IsWhole) (a2 : Memref sig .tc .smem S1x6 .f32) (h2 : a2.IsWhole)
    (a3 : Memref sig .tc .smem S1x1 .i32) (h3 : a3.IsWhole) (x0 : Vec F S1x1 .i32) (x1 : Vec F S1x6 .f32) :
    out0_A_2 c a0 h0 a1 h1 a2 h2 a3 h3 x0 x1 = sums x0 x1 := by
  unfold out0_A_2
  rw [View.read_writes_eq_canon _ _ _ (cover0_A_2 c a0 h0 a1 h1 a2 h2 a3 h3 x0 x1)]
  funext y
  refine View.canon_apply_of_pieces (sums x0 x1) _ ?_ y (cover0_A_2 c a0 h0 a1 h1 a2 h2 a3 h3 x0 x1 y)
  unfold kernelRun0_A
  dsimp only
  sl_unfold_words
  simp only [List.forall_mem_cons, List.not_mem_nil, false_implies, implies_true, and_true]
  exact ⟨entry_read a0 h0 a1 h1 x0 x1 ![0, 5] _ _ _ _, entry_read a0 h0 a1 h1 x0 x1 ![0, 4] _ _ _ _,
    entry_read a0 h0 a1 h1 x0 x1 ![0, 3] _ _ _ _, entry_read a0 h0 a1 h1 x0 x1 ![0, 2] _ _ _ _,
    entry_read a0 h0 a1 h1 x0 x1 ![0, 1] _ _ _ _, entry_read a0 h0 a1 h1 x0 x1 ![0, 0] _ _ _ _⟩

/-- The one store leaves the word 1 in the second output block. -/
theorem out_one (c : Dev nD) (a0 : Memref sig .tc .smem S1x1 .i32) (h0 : a0.IsWhole)
    (a1 : Memref sig .tc .smem S1x6 .f32) (h1 : a1.IsWhole) (a2 : Memref sig .tc .smem S1x6 .f32) (h2 : a2.IsWhole)
    (a3 : Memref sig .tc .smem S1x1 .i32) (h3 : a3.IsWhole) (x0 : Vec F S1x1 .i32) (x1 : Vec F S1x6 .f32) :
    out0_A_3 c a0 h0 a1 h1 a2 h2 a3 h3 x0 x1 = fun _ => 1#32 := by
  unfold out0_A_3
  rw [View.read_writes_eq_canon _ _ _ (cover0_A_3 c a0 h0 a1 h1 a2 h2 a3 h3 x0 x1)]
  funext y
  refine View.canon_apply_of_pieces (fun _ => 1#32) _ ?_ y (cover0_A_3 c a0 h0 a1 h1 a2 h2 a3 h3 x0 x1 y)
  unfold kernelRun0_A
  dsimp only
  simp only [List.forall_mem_cons, List.not_mem_nil, false_implies, implies_true, and_true]

end Cert.CoalesceIdeal.Block
-- ==== Proof.CallValue.lean ====
/-
  The call on its own arguments: what its two result arrays hold after a run.
-/
module

public import proofs.«01_k».proof.Proof.CallBlock
public import proofs.«01_k».proof.Proof.Gen.CoalesceIdeal.Value

@[expose] public section

noncomputable section

namespace Cert.CoalesceIdeal.Arrays

open Cert.CoalesceIdeal Cert.CoalesceIdeal.Gen Cert.CoalesceIdeal.Block Idealize.ShloMosaic Idealize.ShloMosaic.TcCoe Idealize.SL.Sem

variable {F : FTy → Type} [FloatOps F]
variable (m : (ℓ : Loc nD τ sig) → Buf (Elt F) ℓ) (ρ : Dev nD → PrngReg)

/-- The block of the index array is the index array. -/
theorem block_indices (c : Dev nD) : (iblk m c 0 t0_0 : Vec F S1x1 .i32) = m ((c : Thread nD τ).loc main_arg0) := by
  have hz : (fun a => win0_0.index t0_0 a * main_arg0.ty.shape.size a) = fun _ => 0 := funext fun a => by fin_cases a <;> decide
  exact Memref.read_access_unit_zero (Elt F) main_arg0 hz (fun a => by rw [congrFun hz a]; simp) (V m c main_arg0)

/-- The block of the value array is the value array. -/
theorem block_values (c : Dev nD) : (iblk m c 1 t0_0 : Vec F S1x6 .f32) = m ((c : Thread nD τ).loc main_arg1) := by
  have hz : (fun a => win0_1.index t0_0 a * main_arg1.ty.shape.size a) = fun _ => 0 := funext fun a => by fin_cases a <;> decide
  exact Memref.read_access_unit_zero (Elt F) main_arg1 hz (fun a => by rw [congrFun hz a]; simp) (V m c main_arg1)

/-- The first result array holds the accumulated entries of the two arguments. -/
theorem array_sums (c : Dev nD) :
    (dats m 0 c).arrAt 2 cfg0.N = sums (m ((c : Thread nD τ).loc main_arg0)) (m ((c : Thread nD τ).loc main_arg1)) := by
  have hz : (fun a => win0_2.index t0_0 a * main_v0_0.ty.shape.size a) = fun _ => 0 := funext fun a => by fin_cases a <;> decide
  have h := Value.blocks2 m c t0_0 (flush0_2 t0_0)
  rw [Value.flushed2_A, out_sums, block_indices, block_values] at h
  exact (Memref.read_access_unit_zero (Elt F) main_v0_0 hz (fun a => by rw [congrFun hz a]; simp) ((dats m 0 c).arrAt 2 cfg0.N)).symm.trans h

/-- The second result array holds the one. -/
theorem array_one (c : Dev nD) : (dats m 0 c).arrAt 3 cfg0.N = fun _ => (1#32 : BitVec 32) := by
  have hz : (fun a => win0_3.index t0_0 a * main_v0_1.ty.shape.size a) = fun _ => 0 := funext fun a => by fin_cases a <;> decide
  have h := Value.blocks3 m c t0_0 (flush0_3 t0_0)
  rw [Value.flushed3_A, out_one] at h
  exact (Memref.read_access_unit_zero (Elt F) main_v0_1 hz (fun a => by rw [congrFun hz a]; simp) ((dats m 0 c).arrAt 3 cfg0.N)).symm.trans h

/-- Every run ends with the accumulated entries and the one in the result arrays, the arguments unchanged. -/
theorem run : θ_run defs (onTc (τ := τ) (main (F := F))) ⟨m, fun _ => 0, ρ⟩ fun r => ∀ c : Dev nD,
      r.2.mem ((c : Thread nD τ).loc main_v0_0) = sums (m ((c : Thread nD τ).loc main_arg0)) (m ((c : Thread nD τ).loc main_arg1))
      ∧ r.2.mem ((c : Thread nD τ).loc main_v0_1) = (fun _ => (1#32 : BitVec 32))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array_sums m c), (h c).2.1.trans (array_one m c), (h c).2.2⟩)
    (Value.run_blocks m ρ)

end Cert.CoalesceIdeal.Arrays
-- ==== Proof.SegmentSum.lean ====
/-
  The reference's sum by segments, one entry in one segment: what the scatter leaves at each place.
-/
module

public import proofs.«01_k».proof.Proof.Gen.CoalesceReferenceIdeal
public import Idealize.ShloMosaic.Lib.Routing.OpsPair
public import Idealize.ShloMosaic.Lib.ValueIdx
public import Idealize.ShloMosaic.PureOps.Ideal

@[expose] public section

noncomputable section

namespace Cert.CoalesceReferenceIdeal.Segment

open Cert.CoalesceReferenceIdeal Cert.CoalesceReferenceIdeal.Gen Idealize.ShloMosaic Idealize.ShloMosaic.TcCoe Idealize.SL.Sem

/-- How the reference's scatter places its updates: by the one index word along the first axis, the other two kept. -/
abbrev place : ScatterDims S1x2x3 S1x1 S1x2x3 := scatter_S1x2x3_S1x1_S1x2x3_12_0_0_1

/-- Update `k` lands at place `i` exactly if the index word is 0 and `k` is `i`. -/
theorem lands (k i : S1x2x3.Idx) (idx : IVec S1x1 32) :
    ScatterDims.resultIdx? place k idx = some i ↔ idx (ValueIdx.ix2 0 0) = 0#32 ∧ k = i := by
  rw [Routing.resultIdx?_eq_some]
  have hs0 : ScatterDims.start place k idx 0 = (idx (ValueIdx.ix2 0 0)).toInt := by
    have e : ∀ j : S1x1.Idx, j = ValueIdx.ix2 0 0 := fun j => funext fun b => by
      match b with
      | ⟨0, _⟩ => exact Subsingleton.elim (α := Fin 1) _ _
      | ⟨1, _⟩ => exact Subsingleton.elim (α := Fin 1) _ _
    unfold ScatterDims.start
    rw [dif_pos (by decide), e (ScatterDims.siIdx place k _)]
  have hs1 : ScatterDims.start place k idx 1 = 0 := rfl
  have hs2 : ScatterDims.start place k idx 2 = 0 := rfl
  have hw0 : ScatterDims.window place k 0 = 0 := rfl
  have hw1 : ScatterDims.window place k 1 = (k 1).val := rfl
  have hw2 : ScatterDims.window place k 2 = (k 2).val := rfl
  have hk0 : (k 0).val < 1 := (k 0).isLt
  have hi0 : (i 0).val < 1 := (i 0).isLt
  have hz : (idx (ValueIdx.ix2 0 0)).toInt = 0 ↔ idx (ValueIdx.ix2 0 0) = 0#32 :=
    ⟨fun h => BitVec.eq_of_toInt_eq h, fun h => by rw [h]; rfl⟩
  rw [← hz]
  constructor
  · intro h
    have q0 := h 0
    have q1 := h 1
    have q2 := h 2
    rw [hs0, hw0] at q0
    rw [hs1, hw1] at q1
    rw [hs2, hw2] at q2
    refine ⟨by omega, funext fun a => Fin.ext ?_⟩
    match a with
    | ⟨0, _⟩ => exact (Nat.lt_one_iff.mp hk0).trans (Nat.lt_one_iff.mp hi0).symm
    | ⟨1, _⟩ => show (k 1).val = (i 1).val; omega
    | ⟨2, _⟩ => show (k 2).val = (i 2).val; omega
  · rintro ⟨h, rfl⟩ a
    match a with
    | ⟨0, _⟩ => show ScatterDims.start place k idx 0 + (ScatterDims.window place k 0 : Int) = ((k 0).val : Int); rw [hs0, hw0]; omega
    | ⟨1, _⟩ => show ScatterDims.start place k idx 1 + (ScatterDims.window place k 1 : Int) = ((k 1).val : Int); rw [hs1, hw1]; omega
    | ⟨2, _⟩ => show ScatterDims.start place k idx 2 + (ScatterDims.window place k 2 : Int) = ((k 2).val : Int); rw [hs2, hw2]; omega

/-- A fold that changes nothing at any member leaves its start. -/
theorem fold_none {α β : Type} (P : β → Prop) [DecidablePred P] (g : α → β → α) (l : List β) (z : α)
    (h : ∀ n ∈ l, ¬ P n) : l.foldl (fun a n => if P n then g a n else a) z = z := by
  induction l with
  | nil => rfl
  | cons b l ih =>
    rw [List.foldl_cons, if_neg (h b List.mem_cons_self)]
    exact ih fun n hn => h n (List.mem_cons_of_mem _ hn)

/-- A fold over distinct members that acts at one of them only acts once. -/
theorem fold_one {α β : Type} (P : β → Prop) [DecidablePred P] (g : α → β → α) (n0 : β) (h : ∀ n, P n ↔ n = n0)
    (l : List β) (hl : l.Nodup) (z : α) (hm : n0 ∈ l) : l.foldl (fun a n => if P n then g a n else a) z = g z n0 := by
  induction l with
  | nil => cases hm
  | cons b l ih =>
    rw [List.foldl_cons]
    obtain ⟨hb, hl⟩ := List.nodup_cons.mp hl
    by_cases e : b = n0
    · rw [if_pos ((h b).mpr e), e]
      exact fold_none P g l _ fun n hn q => hb (by rw [e, ← (h n).mp q]; exact hn)
    · rw [if_neg fun q => e ((h b).mp q)]
      exact ih hl ((List.mem_cons.mp hm).resolve_left fun q => e q.symm)

/-- The scatter at a place: the update of that place combined with the start if the index word is 0, the start otherwise. -/
theorem scatter_entry {α : Type} (f : α → α → α) (x : S1x2x3.Idx → α) (idx : IVec S1x1 32) (upd : S1x2x3.Idx → α) (i : S1x2x3.Idx) :
    Host.scatter place f x idx upd i = if idx (ValueIdx.ix2 0 0) = 0#32 then f (x i) (upd i) else x i := by
  rw [Routing.scatter_at]
  by_cases hw : idx (ValueIdx.ix2 0 0) = 0#32
  · rw [if_pos hw, fold_one (fun n => ScatterDims.resultIdx? place (S1x2x3.rowMajor.symm n) idx = some i)
      (fun a n => f a (upd (S1x2x3.rowMajor.symm n))) (S1x2x3.rowMajor i)
      (fun n => by rw [lands, Equiv.symm_apply_eq]; exact and_iff_right hw) _ (List.nodup_finRange _) _ (List.mem_finRange _)]
    rw [Equiv.symm_apply_apply]
  · rw [if_neg hw]
    exact fold_none (fun n => ScatterDims.resultIdx? place (S1x2x3.rowMajor.symm n) idx = some i)
      (fun a n => f a (upd (S1x2x3.rowMajor.symm n))) _ _ fun n _ q => hw ((lands _ _ _).mp q).1

end Cert.CoalesceReferenceIdeal.Segment
-- ==== Proof.Agree.lean ====
/-
  The equation: the entries the call accumulates are the sum by segments of the reference.
-/
module

public import proofs.«01_k».proof.Proof.CallValue
public import proofs.«01_k».proof.Proof.SegmentSum
public import Idealize.ShloMosaic.Lib.IdealHost
public import Idealize.ShloMosaic.Lib.Pipeline.Value

@[expose] public section

noncomputable section

namespace Cert.Agree

open Cert.CoalesceReferenceIdeal Cert.CoalesceReferenceIdeal.Gen Idealize.ShloMosaic Idealize.ShloMosaic.TcCoe Idealize.SL.Sem

/-- An accumulated entry is the value combined with zero if the index word is 0, and zero otherwise. -/
theorem entry_cases (w : BitVec 32) (v : Ideal .f32) : Cert.CoalesceIdeal.Block.entry w v
    = if w = 0#32 then FloatOps.addf (Ideal.ofBits .f32 0x00000000#32 : Ideal .f32) v else (Ideal.ofBits .f32 0x00000000#32 : Ideal .f32) := by
  unfold Cert.CoalesceIdeal.Block.entry
  by_cases h : w = 0#32
  · subst h
    rw [if_pos rfl]
    rfl
  · rw [if_neg h]
    have hc : Scalar.cmpi .eq w 0#32 = 0#1 := by
      show BitVec.ofBool (w == 0#32) = 0#1
      rw [beq_false_of_ne h]
      rfl
    rw [hc]
    show (Ideal.ofBits .f32 0x00000000#32 + Ideal.ofBits .f32 0x00000000#32 : EReal) = Ideal.ofBits .f32 0x00000000#32
    rw [Ideal.ofBits_zero_f32, add_zero]

/-- The reference's sum by segments, for every index word and every six values, is the accumulated entries. -/
theorem segment_sum (x0 : Vec Ideal S1x1 .i32) (x1 : Vec Ideal S1x6 .f32) :
    shapeCast S1x6 (Host.scatter scatter_S1x2x3_S1x1_S1x2x3_12_0_0_1 FloatOps.addf
        (broadcastInDim S1x2x3 ![] bcast_S_S1x2x3 (constant (F := Ideal) S_ .f32 0x00000000#32))
        (broadcastInDim S1x1 ![0] bcast_S1_S1x1_0 (shapeCast S1 x0 shapeCasts_S1x1_S1))
        (shapeCast S1x2x3 x1 shapeCasts_S1x6_S1x2x3)) shapeCasts_S1x2x3_S1x6
      = Cert.CoalesceIdeal.Block.sums x0 x1 := by
  have hi : (broadcastInDim S1x1 ![0] bcast_S1_S1x1_0 (shapeCast S1 x0 shapeCasts_S1x1_S1)) (ValueIdx.ix2 0 0) = x0 (ValueIdx.ix2 0 0) :=
    congrArg x0 (Cert.CoalesceIdeal.Block.cell_eq _ _)
  funext y
  unfold Cert.CoalesceIdeal.Block.sums
  rw [entry_cases]
  refine (Segment.scatter_entry _ _ _ _ _).trans ?_
  rw [hi]
  refine if_congr Iff.rfl ?_ rfl
  exact congrArg _ (congrFun (shapeCast_shapeCast x1 shapeCasts_S1x6_S1x2x3 shapeCasts_S1x2x3_S1x6) y)

end Cert.Agree
-- ==== Proof.lean ====
/-
  The proof of the claim: the programs run and leave their arguments, and each kernel's results are its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Coalesce
public import proofs.«01_k».proof.Proof.Gen.Coalesce.Skeleton
public import proofs.«01_k».proof.Proof.Gen.Coalesce.Launch
public import proofs.«01_k».proof.Proof.Gen.Coalesce.Points
public import proofs.«01_k».proof.Proof.Gen.Coalesce.Frame
public import proofs.«01_k».proof.Proof.Gen.CoalesceIdeal
public import proofs.«01_k».proof.Proof.Gen.CoalesceIdeal.Skeleton
public import proofs.«01_k».proof.Proof.Gen.CoalesceIdeal.Launch
public import proofs.«01_k».proof.Proof.Gen.CoalesceIdeal.Points
public import proofs.«01_k».proof.Proof.Gen.CoalesceIdeal.Frame
public import proofs.«01_k».proof.Proof.Gen.CoalesceReferenceIdeal
public import proofs.«01_k».proof.Proof.Gen.CoalesceIdeal.Value
public import proofs.«01_k».proof.Proof.Gen.ReferenceIdeal.Run
public import proofs.«01_k».proof.Proof.Gen.CoalesceReferenceIdeal.Run
public import proofs.«01_k».proof.Proof.KernelValue
public import proofs.«01_k».proof.Proof.CallValue
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its argument unchanged and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the call ends with its arguments unchanged and every counter at zero. -/
theorem frame_callReference : Cert.quiescent_CoalesceReferenceIdeal := fun m ρ _ =>
  (θ_run Cert.CoalesceReferenceIdeal.defs _ _).mono (fun r h => ⟨fun c => (h c).2.2, sem_eq_zero_of_no_sems (by decide) r.2⟩)
    (Cert.CoalesceReferenceIdeal.Value.run (F := Ideal) m ρ)

/-- The kernel's result and its reference's are the one. -/
theorem algebraic_kernel : Cert.algebraic_KernelIdeal_ReferenceIdeal := fun m ρ m' ρ' _ _ =>
  ⟨fun _ => constantI _ 32 1#32, Cert.KernelIdeal.Arrays.run m ρ, Cert.ReferenceIdeal.Value.run m' ρ'⟩

/-- The call's results are its reference's: the sum by segments, and the one. -/
theorem algebraic_call : Cert.algebraic_CoalesceIdeal_CoalesceReferenceIdeal := fun m ρ m' ρ' _ ha =>
  ⟨fun c => Cert.CoalesceIdeal.Block.sums (m ((c.tc : Thread _ _).loc Cert.CoalesceIdeal.main_arg0))
      (m ((c.tc : Thread _ _).loc Cert.CoalesceIdeal.main_arg1)),
    fun _ => fun _ => (1#32 : BitVec 32), Cert.CoalesceIdeal.Arrays.run m ρ,
    (θ_run Cert.CoalesceReferenceIdeal.defs _ _).mono
      (fun _ h c => ⟨(h c).1.trans ((Cert.Agree.segment_sum _ _).trans (congrArg₂ _ (ha c).1 (ha c).2)), (h c).2.1, (h c).2.2⟩)
      (Cert.CoalesceReferenceIdeal.Value.run (F := Ideal) m' ρ')⟩

theorem claim : Cert.Claim :=
  ⟨Cert.Kernel.Gen.facts, Cert.KernelIdeal.Gen.facts, Cert.ReferenceIdeal.Gen.facts, Cert.Coalesce.Gen.facts,
    Cert.CoalesceIdeal.Gen.facts, Cert.CoalesceReferenceIdeal.Gen.facts,
    fun m ρ _ => Cert.Kernel.Gen.frame m ρ, fun m ρ _ => Cert.KernelIdeal.Gen.frame m ρ, frame_reference,
    fun m ρ _ => Cert.Coalesce.Gen.frame m ρ, fun m ρ _ => Cert.CoalesceIdeal.Gen.frame m ρ, frame_callReference,
    trivial, algebraic_kernel, trivial, algebraic_call⟩

end Cert.Proof

end
